-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x2048 : Shape := ⟨2, ![128, 2048]⟩
abbrev S4096x2048 : Shape := ⟨2, ![4096, 2048]⟩
abbrev S4096 : Shape := ⟨1, ![4096]⟩
abbrev S1x4096 : Shape := ⟨2, ![1, 4096]⟩
abbrev S128x4096 : Shape := ⟨2, ![128, 4096]⟩
abbrev S1024x2048 : Shape := ⟨2, ![1024, 2048]⟩
abbrev S128x1024 : Shape := ⟨2, ![128, 1024]⟩
abbrev S128x512 : Shape := ⟨2, ![128, 512]⟩
abbrev S128x256 : Shape := ⟨2, ![128, 256]⟩
abbrev S_ : Shape := ⟨0, ![]⟩
abbrev S1x1024 : Shape := ⟨2, ![1, 1024]⟩
abbrev S512x2048 : Shape := ⟨2, ![512, 2048]⟩
abbrev S256x2048 : Shape := ⟨2, ![256, 2048]⟩
abbrev S1x512 : Shape := ⟨2, ![1, 512]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S128x2048, .f32⟩
  | .hbm, ⟨1, _⟩ => ⟨S4096x2048, .f32⟩
  | .hbm, ⟨2, _⟩ => ⟨S4096, .f32⟩
  | .hbm, ⟨3, _⟩ => ⟨S1x4096, .f32⟩
  | .hbm, ⟨4, _⟩ => ⟨S128x4096, .f32⟩
  | .local _ .vmem, ⟨0, _⟩ => ⟨S128x2048, .f32⟩
  | .local _ .vmem, ⟨1, _⟩ => ⟨S1x4096, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x512, .f32⟩
  | .local _ .vmem, ⟨9, _⟩ => ⟨S128x256, .f32⟩
  | .local _ .vmem, ⟨10, _⟩ => ⟨S128x256, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S128x2048 : Shape := ⟨2, ![128, 2048]⟩
abbrev S4096x2048 : Shape := ⟨2, ![4096, 2048]⟩
abbrev S4096 : Shape := ⟨1, ![4096]⟩
abbrev S2048x4096 : Shape := ⟨2, ![2048, 4096]⟩
abbrev S128x4096 : Shape := ⟨2, ![128, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S4096x2048, .f32⟩
  | .hbm, ⟨2, _⟩ => ⟨S4096, .f32⟩
  | .hbm, ⟨3, _⟩ => ⟨S2048x4096, .f32⟩
  | .hbm, ⟨4, _⟩ => ⟨S128x4096, .f32⟩
  | .hbm, ⟨5, _⟩ => ⟨S1x4096, .f32⟩
  | .hbm, ⟨6, _⟩ => ⟨S128x4096, .f32⟩
  | .hbm, ⟨7, _⟩ => ⟨S128x4096, .f32⟩
  | .hbm, ⟨8, _⟩ => ⟨S_, .f32⟩
  | .hbm, ⟨9, _⟩ => ⟨S128x4096, .f32⟩
  | .hbm, ⟨10, _⟩ => ⟨S128x4096, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Run.lean ====
/- THE KERNEL'S BODY, RUN. It copies the weights' rows in, in six chunks through three buffers, multiplies each chunk as it
   lands, and copies each chunk's columns of the result out while the next is on its way. `body_run` says what one run of
   it leaves, at any float values: the result's array at `resultOf`, everything else as it was. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the counters of the body's own transfers. -/
local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- That buffer, held whole at contents `f`. -/
abbrev pt (c : Dev nD) {sp : Space} {S : Shape} {e : EltTy} (M : Memref sig .tc sp S e) (f : Bf (F := F) c M) : sProp 𝕄 :=
  M.view.loc (c : Thread nD τ) ↦{fullShare} f

/-- The kernel's buffers outside the staged windows: the weights' array and the result's, then the three buffers the
    weights' chunks land in and the six that hold the chunks of the result on their way out. -/
abbrev wM : Memref sig .tc .hbm S4096x2048 .f32 := Memref.whole main_arg1
@[inherit_doc wM] abbrev oM : Memref sig .tc .hbm S128x4096 .f32 := Memref.whole main_v1
@[inherit_doc wM] abbrev b0 : Memref sig .tc .vmem S1024x2048 .f32 := Memref.whole cc0_scratch0
@[inherit_doc wM] abbrev b1 : Memref sig .tc .vmem S1024x2048 .f32 := Memref.whole cc0_scratch1
@[inherit_doc wM] abbrev b2 : Memref sig .tc .vmem S1024x2048 .f32 := Memref.whole cc0_scratch2
@[inherit_doc wM] abbrev r0 : Memref sig .tc .vmem S128x1024 .f32 := Memref.whole cc0_scratch3
@[inherit_doc wM] abbrev r1 : Memref sig .tc .vmem S128x1024 .f32 := Memref.whole cc0_scratch4
@[inherit_doc wM] abbrev r2 : Memref sig .tc .vmem S128x1024 .f32 := Memref.whole cc0_scratch5
@[inherit_doc wM] abbrev r3 : Memref sig .tc .vmem S128x512 .f32 := Memref.whole cc0_scratch6
@[inherit_doc wM] abbrev r4 : Memref sig .tc .vmem S128x256 .f32 := Memref.whole cc0_scratch7
@[inherit_doc wM] abbrev r5 : Memref sig .tc .vmem S128x256 .f32 := Memref.whole cc0_scratch8

/-- The nine scratch buffers, each whole at some contents. -/
abbrev scratch (c : Dev nD) : sProp 𝕄 :=
  iprop((∃ f, pt c b0 f) ∗ (∃ f, pt c b1 f) ∗ (∃ f, pt c b2 f) ∗ (∃ f, pt c r0 f) ∗ (∃ f, pt c r1 f) ∗ (∃ f, pt c r2 f)
    ∗ (∃ f, pt c r3 f) ∗ (∃ f, pt c r4 f) ∗ (∃ f, pt c r5 f))

/-- The twelve cells of the body's transfers. -/
abbrev osem : Fin 12 → SemLoc sig := fun j => (![SemLoc.dma 2, SemLoc.dma 3, SemLoc.dma 4, SemLoc.dma 5, SemLoc.dma 6, SemLoc.dma 7,
  SemLoc.dma 8, SemLoc.dma 9, SemLoc.dma 10, SemLoc.dma 11, SemLoc.dma 12, SemLoc.dma 13] : Fin 12 → SemLoc sig) j

/-- Each of the twelve cells at zero. -/
abbrev cells0 (c : Dev nD) : sProp 𝕄 :=
  iprop(semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0
    ∗ semVal ((c : Thread nD τ), SemLoc.dma 12) 0 ∗ semVal ((c : Thread nD τ), SemLoc.dma 13) 0)

/-- The weights' rows a rectangle names, read off the weights' array. -/
abbrev rowsAt {c : Dev nD} (fw : Bf (F := F) c wM) (r : Rect S4096x2048) (h : ∀ a, r.stride a = 1) : Vec F r.shape .f32 :=
  (wM.slice r h).view.read (Elt F) fw

/-- The bias' columns a rectangle names. -/
abbrev colsAt (B : Vec F S1x4096 .f32) (r : Rect S1x4096) : Vec F r.shape .f32 := fun j => B (r.toLoadRect.idx j)

/-- What the six copies out leave in the result's array: each chunk's columns, written over what the array held. -/
def resultOf (c : Dev nD) (X : Vec F S128x2048 .f32) (B : Vec F S1x4096 .f32) (fw : Bf (F := F) c wM) (fo : Bf (F := F) c oM) :
    Bf (F := F) c oM :=
  oM.view.writes (Elt F) fo
    [⟨Rect.unit ![0, 3840] S128x256.size inb_S128x4096_S128x256_0_3840,
        k0_pay1 (k0_pay8 (rowsAt fw (Rect.unit ![3840, 0] S256x2048.size inb_S4096x2048_S256x2048_3840_0) (fun _ => rfl)) X
          (colsAt B (Rect.unit ![0, 3840] S1x256.size inb_S1x4096_S1x256_0_3840)))⟩,
      ⟨Rect.unit ![0, 3584] S128x256.size inb_S128x4096_S128x256_0_3584,
        k0_pay7 (rowsAt fw (Rect.unit ![3584, 0] S256x2048.size inb_S4096x2048_S256x2048_3584_0) (fun _ => rfl)) X
          (colsAt B (Rect.unit ![0, 3584] S1x256.size inb_S1x4096_S1x256_0_3584))⟩,
      ⟨Rect.unit ![0, 3072] S128x512.size inb_S128x4096_S128x512_0_3072,
        k0_pay6 (rowsAt fw (Rect.unit ![3072, 0] S512x2048.size inb_S4096x2048_S512x2048_3072_0) (fun _ => rfl)) X
          (colsAt B (Rect.unit ![0, 3072] S1x512.size inb_S1x4096_S1x512_0_3072))⟩,
      ⟨Rect.unit ![0, 2048] S128x1024.size inb_S128x4096_S128x1024_0_2048,
        k0_pay5 (k0_pay4 (rowsAt fw (Rect.unit ![2048, 0] S1024x2048.size inb_S4096x2048_S1024x2048_2048_0) (fun _ => rfl)) X)
          (colsAt B (Rect.unit ![0, 2048] S1x1024.size inb_S1x4096_S1x1024_0_2048))⟩,
      ⟨Rect.unit ![0, 1024] S128x1024.size inb_S128x4096_S128x1024_0_1024,
        k0_pay3 (rowsAt fw (Rect.unit ![1024, 0] S1024x2048.size inb_S4096x2048_S1024x2048_1024_0) (fun _ => rfl)) X
          (colsAt B (Rect.unit ![0, 1024] S1x1024.size inb_S1x4096_S1x1024_0_1024))⟩,
      ⟨Rect.unit ![0, 0] S128x1024.size inb_S128x4096_S128x1024_0_0,
        k0_pay2 (rowsAt fw (Rect.unit ![0, 0] S1024x2048.size inb_S4096x2048_S1024x2048_0_0) (fun _ => rfl)) X
          (colsAt B (Rect.unit ![0, 0] S1x1024.size inb_S1x4096_S1x1024_0_0))⟩]

/-- A copy out of a buffer stored whole carries what was stored. -/
theorem landed_eq {s : Shape} {sp : Space} (out : View sig .tc sp s .f32) (g : out.ty.Contents (Elt F))
    {off : Fin s.rank → ℕ} (inb : ∀ a, off a + s.size a ≤ s.size a) (p : (Rect.unit off s.size inb).shape.Idx → Elt F .f32) :
    ReadAs.same.apply (out.read (Elt F) (out.writes (Elt F) g [⟨Rect.unit off s.size inb, p⟩])) = p :=
  View.read_writes_full _ _ _ _ _

set_option maxHeartbeats 1000000 in
/-- THE BODY'S RUN. From the two staged windows at `X` and `B`, the weights' array at `fw`, the result's array, the scratch
    buffers and the cells at zero, the body terminates with the result's array at `resultOf c X B fw fo`, the staged windows
    and the weights unchanged and every cell back at zero. -/
theorem body_run (c : Dev nD) (xM : Memref sig .tc .vmem S128x2048 .f32) (hx : xM.IsWhole)
    (bM : Memref sig .tc .vmem S1x4096 .f32) (hb : bM.IsWhole)
    (X : Vec F S128x2048 .f32) (B : Vec F S1x4096 .f32) (fw : Bf (F := F) c wM) (fo : Bf (F := F) c oM)
    (W : Waits sig Unit) (K : PUnit → sProp 𝕄) :
    iprop(owns (c : Thread nD τ) xM fullShare X ∗ owns (c : Thread nD τ) bM fullShare B ∗ pt c wM fw ∗ pt c oM fo
        ∗ scratch (F := F) c ∗ cells0 (F := F) c ∗ owes (c : Thread nD τ) 0 W
        ∗ (iprop(owns (c : Thread nD τ) xM fullShare X ∗ owns (c : Thread nD τ) bM fullShare B ∗ pt c wM fw
              ∗ pt c oM (resultOf c X B fw fo) ∗ scratch (F := F) c ∗ cells0 (F := F) c
              ∗ (∃ W', owes (c : Thread nD τ) 0 W')) -∗ K ⟨⟩))
      ⊢ wp frame (wpE (defs₀ (F := F)) Variants.none c none) Set.univ
          (cc0__body xM hx bM hb wM (Memref.isWhole_whole _) oM (Memref.isWhole_whole _) b0 (Memref.isWhole_whole _)
            b1 (Memref.isWhole_whole _) b2 (Memref.isWhole_whole _) r0 (Memref.isWhole_whole _) r1 (Memref.isWhole_whole _)
            r2 (Memref.isWhole_whole _) r3 (Memref.isWhole_whole _) r4 (Memref.isWhole_whole _) r5 (Memref.isWhole_whole _)
            cc0_scratch9 cc0_scratch10 cc0_scratch11 cc0_scratch12 cc0_scratch13 cc0_scratch14 cc0_scratch15 cc0_scratch16
            cc0_scratch17 cc0_scratch18 cc0_scratch19 cc0_scratch20) K := by
  simp only [cc0__body_eq_skeleton]; unfold cc0__body_skel
  unfold owns
  iintro ⟨⟨%fx, %hfx, Hx⟩, ⟨%fb, %hfb, Hb⟩, Hw, Ho, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩⟩,
    ⟨Hs2, Hs3, Hs4, Hs5, Hs6, Hs7, Hs8, Hs9, Hs10, Hs11, Hs12, Hs13⟩, HW, Hk⟩
  set_option sl_exec.dmaWindow true in sl_exec
  sl_step
  have hY : oM.view.writes (Elt F) fo
      [⟨Rect.unit ![0, 3840] S128x256.size inb_S128x4096_S128x256_0_3840, body_run.sl.dma30 c xM bM fw fx fb g8⟩,
      ⟨Rect.unit ![0, 3584] S128x256.size inb_S128x4096_S128x256_0_3584, body_run.sl.dma25 c xM bM fw fx fb g7⟩,
      ⟨Rect.unit ![0, 3072] S128x512.size inb_S128x4096_S128x512_0_3072, body_run.sl.dma20 c xM bM fw fx fb g6⟩,
      ⟨Rect.unit ![0, 2048] S128x1024.size inb_S128x4096_S128x1024_0_2048, body_run.sl.dma15 c xM bM fw fx fb g5⟩,
      ⟨Rect.unit ![0, 1024] S128x1024.size inb_S128x4096_S128x1024_0_1024, body_run.sl.dma10 c xM bM fw fx fb g4⟩,
      ⟨Rect.unit ![0, 0] S128x1024.size inb_S128x4096_S128x1024_0_0, body_run.sl.dma5 c xM bM fw fx fb g3⟩] = resultOf c X B fw fo := by
    delta body_run.sl.dma30 body_run.sl.dma25 body_run.sl.dma20 body_run.sl.dma15 body_run.sl.dma10 body_run.sl.dma5 body_run.sl.H3_1 body_run.sl.H4_1 body_run.sl.H5_1 body_run.sl.H6_1 body_run.sl.H7_1 body_run.sl.H8_1 body_run.sl.r body_run.sl.r_1 body_run.sl.v42 body_run.sl.v74 body_run.sl.v89 body_run.sl.v8 body_run.sl.v25 body_run.sl.v59 body_run.sl.dma0 body_run.sl.dma0_1 body_run.sl.dma0_2 body_run.sl.dma5_1 body_run.sl.dma10_1 body_run.sl.dma15_1
    iterate 6 rw [View.readCov_cons_toLoadRect]
    rw [View.readAt_full, hfx]
    iterate 6 rw [landed_eq]
    subst hfb
    rfl
  iapply Hk
  isplitl [Hx]; · iexists _; isplitr; · ipureintro; exact hfx
                  iexact Hx
  isplitl [Hb]; · iexists _; isplitr; · ipureintro; exact hfb
                  iexact Hb
  isplitl [Hw]; · iexact Hw
  isplitl [Ho]; · rw [← hY]; iexact Ho
  isplitl [H0 H1 H2 H3 H4 H5 H6 H7 H8]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  isplitr [HW]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    iexact Hs13
  iexists _; iexact HW

end Cert.KernelIdeal.Run

end
-- ==== Proof.Frame.lean ====
/- THE LAUNCH. The body's run (Proof/Run.lean) put under the region that stages the input and the bias: every run of the
   program terminates without a fault, with the result's array at `Y`, the arguments unchanged and every counter at zero. -/
module

public import proofs.«01_k».proof.Proof.Run
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources, as in Proof/Run.lean. -/
local notation "𝕄" => MT nD τ sig Unit (Elt F) ℕ (Pipeline.UD sig nD τ) ℕ

variable (m : (ℓ : Loc nD τ sig) → Buf (Elt F) ℓ) (ρ : Dev nD → PrngReg)

/-! ## What the body's transfers read and write -/

/-- The array the body's copies read. -/
def H : Finset (Ref sig .tc) := {main_arg1}
/-- The array they write. -/
def R : Finset (Ref sig .tc) := {main_v1}
/-- Neither is staged, -/
theorem H_sub : H ⊆ Pipeline.restRefs sig spec0 := by decide
/-- they are different arrays, -/
theorem R_sub : R ⊆ Pipeline.restRefs sig spec0 \ H := by decide
/-- and the body's cells are twelve different ones, none of them the staging's. -/
theorem ownSemFacts : Pipeline.OwnSemFacts spec0 osem := by decide

/-- The body's cells at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = cells0 (F := F) c := by
  rw [Pipeline.ownSems0_eq_of_list c osem [0, 1, 2, 3, 4, 5, 6, 7, 8, 9, 10, 11] (by decide) (by decide)]; rfl

/-- The result's array after the body: every chunk's columns, from the blocks the two staged windows hold. -/
def Y (c : Dev nD) : Bf (F := F) c oM :=
  resultOf c (iblk m c 0 t0_0) (iblk m c 1 t0_0) (V m c main_arg1) (V m c main_v1)

/-- The buffers the body writes, after it. -/
def G (c : Dev nD) (b : Ref sig .tc) : Buf (Elt F) ((c.tc : Thread nD τ).loc b) := Function.update (V m c) main_v1 (Y m c) b

/-- The result's array among them. -/
theorem G_main_v1 (c : Dev nD) : G m c main_v1 = Y m c := Function.update_self ..

/-- The invariant conjunct by conjunct, the result's array at the contents `Z` gives it. -/
theorem inv_eq (Z : (c : Dev nD) → (b : Ref sig .tc) → Buf (Elt F) ((c.tc : Thread nD τ).loc b)) (c : Dev nD) :
    (Pipeline.ΦDRG osem spec0 H R (V m) Z c : sProp 𝕄)
      = iprop(scratch (F := F) c ∗ (∃ r, prngReg c r) ∗ cells0 (F := F) c ∗ pt c wM (V m c main_arg1) ∗ pt c oM (Z c main_v1)) := by
  rw [Pipeline.ΦDRG_eq, scopedRest0_eq, ownSems_eq]
  unfold H R
  rw [BI.bigSep_singleton, Pipeline.routed_singleton]

/-! ## The proof data and the body's obligation -/

/-- The proof data of the one pipeline: the arrays as the region finds them, each staged input's block left in place, the
    result's array as the region finds it before the body and at `Y` after. -/
def dats (_ : Fin 1) (c : Dev nD) : Dat τ (Elt F) Unit ℕ (Pipeline.UD sig nD τ) ℕ cfg0 c where
  A w := V m c (Pipeline.arrRef spec0 w)
  after w t := match w with | 0 => iblk m c 0 t | 1 => iblk m c 1 t
  Φ p := if p = 0 then Pipeline.ΦDRG osem spec0 H R (V m) (V m) c else Pipeline.ΦDRG osem spec0 H R (V m) (G m) c
  q _ := fullShare
  owed _ := 0

/-- The data's fields read back. -/
theorem A_eq (c : Dev nD) (w : Fin cfg0.W) : (dats m 0 c).A w = V m c (Pipeline.arrRef spec0 w) := by dsimp only [dats]
@[inherit_doc A_eq] theorem after_eq0 (c : Dev nD) (t : Fin cfg0.N) : (dats m 0 c).after 0 t = iblk m c 0 t := by dsimp only [dats]
@[inherit_doc A_eq] theorem after_eq1 (c : Dev nD) (t : Fin cfg0.N) : (dats m 0 c).after 1 t = iblk m c 1 t := by dsimp only [dats]

/-- Each staged input holds its block when the body starts. -/
theorem before_eq0 (c : Dev nD) (t : Fin cfg0.N) (d) : (dats m 0 c).before 0 t d = iblk m c 0 t :=
  ((dats m 0 c).before_in_eq_fetched 0 rfl (fun _ => rfl) (fun _ _ _ => rfl)
    (fun t => by rw [after_eq0]; unfold Dat.blockOf iblk; rw [A_eq]) t d).trans
    (by unfold Dat.fetched Dat.blockOf iblk; rw [A_eq]; try rfl)
@[inherit_doc before_eq0] theorem before_eq1 (c : Dev nD) (t : Fin cfg0.N) (d) : (dats m 0 c).before 1 t d = iblk m c 1 t :=
  ((dats m 0 c).before_in_eq_fetched 1 rfl (fun _ => rfl) (fun _ _ _ => rfl)
    (fun t => by rw [after_eq1]; unfold Dat.blockOf iblk; rw [A_eq]) t d).trans
    (by unfold Dat.fetched Dat.blockOf iblk; rw [A_eq]; try rfl)

/-- What the body is run from at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The invariant before the one point, -/
theorem inv_before (c : Dev nD) (t : Fin cfg0.N) :
    (dats m 0 c).Φ t.castSucc = Pipeline.ΦDRG osem spec0 H R (V m) (V m) c := by
  dsimp only [dats]; exact if_pos (by rw [fin_N0 t]; rfl)
/-- and after it. -/
theorem inv_after (c : Dev nD) (t : Fin cfg0.N) :
    (dats m 0 c).Φ t.succ = Pipeline.ΦDRG osem spec0 H R (V m) (G m) c := by
  dsimp only [dats]; exact if_neg (Fin.succ_ne_zero t)

/-- The body at the one point, from what the region hands it to what the region takes back: `body_run`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [inv_before, inv_after, inv_eq, inv_eq, after_eq0, after_eq1, G_main_v1]
  simp only [before_eq0, before_eq1]
  obtain rfl := fin_N0 t
  unfold Dat.owesAt Pipeline.owesWithin
  rw [show (dats m 0 c).owed (Fin.castSucc t0_0) = 0 from rfl, show (dats m 0 c).owed (Fin.succ t0_0) = 0 from rfl]
  iintro ⟨⟨Hs, Hg, Hq, Hw, Ho⟩, ⟨%W, -, HW⟩, ⟨%d0, Hx⟩, ⟨%d1, Hb⟩⟩
  iapply (body_run c _ _ _ _ (iblk m c 0 t0_0) (iblk m c 1 t0_0) (V m c main_arg1) (V m c main_v1) W _)
  isplitl [Hx]; · iexact Hx
  isplitl [Hb]; · iexact Hb
  isplitl [Hw]; · iexact Hw
  isplitl [Ho]; · iexact Ho
  isplitl [Hs]; · iexact Hs
  isplitl [Hq]; · iexact Hq
  isplitl [HW]; · iexact HW
  iintro ⟨Hx, Hb, Hw, Ho, Hs, Hq, ⟨%W', HW'⟩⟩
  isplitl [Hs Hg Hq Hw Ho]
  · isplitl [Hs]; · iexact Hs
    isplitl [Hg]; · iexact Hg
    isplitl [Hq]; · iexact Hq
    isplitl [Hw]; · iexact Hw
    iexact Ho
  isplitl [HW']
  · iexists W'; isplitr; · ipureintro; exact fun _ _ => Or.inl trivial
    iexact HW'
  isplitl [Hx]; · iexact Hx
  iexact Hb

/-- The body the region calls is the program's body at the staged windows. -/
theorem defs₀_row (t : Fin cfg0.N) :
    defs₀ (F := F) .tc cfg0.body (cfg0.bodyArgs t (cfg0.slots t)) = bodyAt0 t := by
  unfold defs₀; rw [Defs.onTc_tc]

/-- So the region's demand on the body is met. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- The host's reshape of the bias, then the region. -/
theorem entry : Pipeline.HMain (Ix := Unit) (Name := ℕ) (U := Pipeline.UD sig nD τ) (Lvl := ℕ) cfgs 0 defs₀ Variants.none m
    (main (F := F)) (V m) :=
  Pipeline.hmain_prefix cfgs 0 defs₀ Variants.none m main hostOps0 hostOps0_sub hostOps0_fresh main_chain

set_option backward.isDefEq.respectTransparency.types false in
/-- Every run terminates without a fault, with the result's array at `Y`, every other array as the region found it and
    every semaphore counter at zero. -/
theorem run_main : θ_run defs (onTc (τ := τ) (main (F := F))) (s₀ m ρ)
    (fun r => Pipeline.FramePostRG cfgs (dats m) 0 R (V m) (G m) r ∧ r.2.sem = fun _ => 0) :=
  Pipeline.θ_run_frame_dmaRG (Q' := _) cfgs (dats m) (0 : Fin 1) launch0 osem defs₀ Variants.none ownSemFacts H R H_sub R_sub m ρ main
    (hbody := fun c => (body_obligation m c).loose) (hshare := fun c => (dats m 0 c).share_full fun _ => rfl)
    (howed := fun _ _ => rfl) (V := V m) (hmain := entry m) (hA := A_eq m) (G := G m)
    (hin := fun c => by rw [show (dats m 0 c).Φ 0 = _ from inv_before m c t0_0])
    (hout := fun c => by rw [show (dats m 0 c).Φ (Fin.last cfg0.N) = _ from inv_after m c t0_0])

/-- Every run terminates without a fault, the arguments unchanged, the counters at zero and the result at `Y`. -/
theorem run_value : θ_run defs (onTc (τ := τ) (main (F := F))) ⟨m, fun _ => 0, ρ⟩ (fun r => (∀ c : Dev nD,
      r.2.mem ((c.tc : Thread nD τ).loc main_v1) = Y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.written c (b := main_v1) (by decide)).trans (G_main_v1 m c),
      ((h.1.toR c).1 0).trans (((dats m 0 c).arrAt_in 0 rfl _).trans ((A_eq m c 0).trans (V_main_arg0 m c))),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c)⟩,
    h.2⟩) (run_main m ρ)

end Cert.KernelIdeal.Run

end
-- ==== Proof.Value.lean ====
/- THE VALUE. Over the extended reals each of the six chunks is the layer's columns from the chunk's offset on
   (`chunk_layer`), the chunks cover the result (`resultOf_eq`), and the reference's term is the same layer of the
   arguments (`reference_eq`). -/
module

public import proofs.«01_k».proof.Proof.Frame
public import proofs.«01_k».proof.Proof.Gen.ReferenceIdeal.Run
public import Idealize.ShloMosaic.Lib.MatmulPlain
public import Idealize.ShloMosaic.Lib.StackMember
public import Idealize.ShloMosaic.Lib.Pipeline.Value
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.ShloMosaic.ValueIdx
open scoped BigOperators

/-! ## One chunk -/

/-- One chunk of `N` result columns: the product with the chunk's rows of the weights, the bias added, the negative part cut. -/
def chunk (N : ℕ) (h : (⟨2, ![1, N]⟩ : Shape).Broadcasts ⟨2, ![128, N]⟩) (w : Vec Ideal ⟨2, ![N, 2048]⟩ .f32)
    (x : Vec Ideal S128x2048 .f32) (b : Vec Ideal ⟨2, ![1, N]⟩ .f32) : FVec Ideal ⟨2, ![128, N]⟩ .f32 :=
  maximumf (addf (matmul (φ₁ := .f32) (φ₂ := .f32) (DotDims.transposedRhs 128 2048 N) none x w (constant _ .f32 0x00000000#32)) (broadcastTo _ b h))
    (broadcast ⟨2, ![128, N]⟩ (Scalar.ofBits .f32 0x00000000#32 : Ideal .f32))

/-- Each of the kernel's six stores carries one chunk: this one and the five below. -/
theorem pay2_eq (w x b) : k0_pay2 (F := Ideal) w x b = chunk 1024 broadcasts_S1x1024_S128x1024 w x b := by
  unfold k0_pay2; simp only [shapeCast_self]; rfl
@[inherit_doc pay2_eq] theorem pay3_eq (w x b) : k0_pay3 (F := Ideal) w x b = chunk 1024 broadcasts_S1x1024_S128x1024 w x b := by
  unfold k0_pay3; simp only [shapeCast_self]; rfl
@[inherit_doc pay2_eq] theorem pay5_eq (w x b) : k0_pay5 (F := Ideal) (k0_pay4 w x) b = chunk 1024 broadcasts_S1x1024_S128x1024 w x b := by
  unfold k0_pay5 k0_pay4; simp only [shapeCast_self]; rfl
@[inherit_doc pay2_eq] theorem pay6_eq (w x b) : k0_pay6 (F := Ideal) w x b = chunk 512 broadcasts_S1x512_S128x512 w x b := by
  unfold k0_pay6; simp only [shapeCast_self]; rfl
@[inherit_doc pay2_eq] theorem pay7_eq (w x b) : k0_pay7 (F := Ideal) w x b = chunk 256 broadcasts_S1x256_S128x256 w x b := by
  unfold k0_pay7; simp only [shapeCast_self]; rfl
@[inherit_doc pay2_eq] theorem pay8_eq (w x b) : k0_pay1 (k0_pay8 (F := Ideal) w x b) = chunk 256 broadcasts_S1x256_S128x256 w x b := by
  unfold k0_pay1 k0_pay8; simp only [shapeCast_self]; rfl

/-- A chunk read at row `i` and its own column `j`. -/
theorem chunk_apply (N : ℕ) (h) (w x b) (i : Fin 128) (j : Fin N) :
    chunk N h w x b (ix2 i j) = max ((∑ k : Fin 2048, x (ix2 i k) * w (ix2 j k)) + b (ix2 0 j)) 0 := by
  unfold chunk
  have hb : broadcastTo (⟨2, ![128, N]⟩ : Shape) b h (ix2 i j) = b (ix2 0 j) := by
    exact broadcastTo_apply b h (ix2 i j) (ix2 0 j) (fun a => by
      match a with
      | ⟨0, _⟩ => rfl
      | ⟨1, _⟩ => show j.val = if N = 1 then 0 else j.val; split <;> omega)
  rw [ValueIdx.maximumf_apply, ValueIdx.addf_apply, hb]
  simp only [matmul]
  rw [Ideal.matmul_transposedRhs_apply]
  show max (Ideal.ofBits .f32 0x00000000#32 + _ + _) (Ideal.ofBits .f32 0x00000000#32) = _
  rw [Ideal.ofBits_zero_f32, zero_add]

/-! ## The whole result -/

/-- The layer's result entry by entry: the rows' products, the bias added, the negative part cut. -/
def layer (X : Vec Ideal S128x2048 .f32) (B : Vec Ideal S1x4096 .f32) (W : Vec Ideal S4096x2048 .f32) : Vec Ideal S128x4096 .f32 :=
  fun y => max ((∑ k : Fin 2048, X (ix2 (y 0) k) * W (ix2 (y 1) k)) + B (ix2 0 (y 1))) 0

/-- The chunk at column `o` is the result's columns from `o` on. -/
theorem chunk_layer (c : Dev nD) (o N : ℕ) (h) (iw ib io) (X : Vec Ideal S128x2048 .f32) (B : Vec Ideal S1x4096 .f32)
    (fw : Bf (F := Ideal) c wM) (x : (Rect.unit (s := S128x4096) ![0, o] ![128, N] io).shape.Idx) :
    chunk N h (rowsAt fw (Rect.unit ![o, 0] ![N, 2048] iw) (fun _ => rfl)) X (colsAt B (Rect.unit ![0, o] ![1, N] ib)) x
      = layer X B fw ((Rect.unit (s := S128x4096) ![0, o] ![128, N] io).emb x) := by
  obtain ⟨i, j, rfl⟩ : ∃ (i : Fin 128) (j : Fin N), x = ix2 i j := ⟨x 0, x 1, eq_ix2 x⟩
  have hlt : o + j.val < 4096 := by have h1 : o + N ≤ 4096 := io 1; have := j.isLt; omega
  rw [chunk_apply]
  have hj : (Rect.unit (s := S128x4096) ![0, o] ![128, N] io).emb (ix2 i j) = ix2 i ⟨o + j.val, hlt⟩ := by
    funext a; apply Fin.ext
    match a with
    | ⟨0, _⟩ => show 0 + 1 * i.val = i.val; omega
    | ⟨1, _⟩ => show o + 1 * j.val = o + j.val; omega
  rw [hj]
  have hw (k : Fin 2048) : (Rect.unit (s := S4096x2048) ![o, 0] ![N, 2048] iw).emb (ix2 j k) = ix2 ⟨o + j.val, hlt⟩ k := by
    funext a; apply Fin.ext
    match a with
    | ⟨0, _⟩ => show o + 1 * j.val = o + j.val; omega
    | ⟨1, _⟩ => show 0 + 1 * k.val = k.val; omega
  unfold layer
  congr 2
  · refine Finset.sum_congr rfl fun k _ => congrArg (X (ix2 i k) * ·) ?_
    exact congrArg fw (hw k)
  · refine congrArg B (funext fun a => Fin.ext ?_)
    match a with
    | ⟨0, _⟩ => rfl
    | ⟨1, _⟩ => show o + 1 * j.val = o + j.val; omega

/-- The six chunks cover the result's columns, so the copies out leave the whole layer, whatever the array held. -/
theorem resultOf_eq (c : Dev nD) (X B) (fw : Bf (F := Ideal) c wM) (fo : Bf (F := Ideal) c oM) :
    resultOf c X B fw fo = layer X B fw := by
  funext y
  show oM.view.read (Elt Ideal) (resultOf c X B fw fo) y = layer X B fw y
  unfold resultOf
  rw [pay2_eq, pay3_eq, pay5_eq, pay6_eq, pay7_eq, pay8_eq]
  refine View.read_writes_apply_of_pieces oM.view fo (layer X B fw) _ ?_ y ?_
  · simp only [List.forall_mem_cons, List.not_mem_nil, false_implies, implies_true, and_true]
    exact ⟨chunk_layer c 3840 256 _ _ _ _ X B fw, chunk_layer c 3584 256 _ _ _ _ X B fw, chunk_layer c 3072 512 _ _ _ _ X B fw,
      chunk_layer c 2048 1024 _ _ _ _ X B fw, chunk_layer c 1024 1024 _ _ _ _ X B fw, chunk_layer c 0 1024 _ _ _ _ X B fw⟩
  · have h0 : (y 0).val < 128 := (y 0).isLt
    have h1 : (y 1).val < 4096 := (y 1).isLt
    have hmem (o N : ℕ) (io) (h : o ≤ (y 1).val ∧ (y 1).val < o + N) :
        y ∈ (Rect.unit (s := S128x4096) ![0, o] ![128, N] io).set :=
      Rect.mem_set_unit.mpr (Fin.forall_fin_two.mpr ⟨⟨Nat.zero_le _, by show _ < 0 + 128; omega⟩, h⟩)
    simp only [List.exists_mem_cons_iff]
    by_cases a5 : 3840 ≤ (y 1).val
    · exact .inl (hmem 3840 256 _ (by omega))
    by_cases a4 : 3584 ≤ (y 1).val
    · exact .inr (.inl (hmem 3584 256 _ (by omega)))
    by_cases a3 : 3072 ≤ (y 1).val
    · exact .inr (.inr (.inl (hmem 3072 512 _ (by omega))))
    by_cases a2 : 2048 ≤ (y 1).val
    · exact .inr (.inr (.inr (.inl (hmem 2048 1024 _ (by omega)))))
    by_cases a1 : 1024 ≤ (y 1).val
    · exact .inr (.inr (.inr (.inr (.inl (hmem 1024 1024 _ (by omega))))))
    exact .inr (.inr (.inr (.inr (.inr (.inl (hmem 0 1024 _ (by omega)))))))

/-! ## From the arguments -/

variable (m : (ℓ : Loc nD τ sig) → Buf (Elt Ideal) ℓ)

/-- The staged bias is the argument laid out as one row. -/
theorem V_main_v0 (c : Dev nD) :
    V m c main_v0 = shapeCast S1x4096 (m ((c.tc : Thread nD τ).loc main_arg2)) shapeCasts_S4096_S1x4096 := by
  unfold V hostOps0
  after_results
  rfl

/-- Each staged window is its whole array. -/
theorem window0 (y : S128x2048.Idx) : ((cfg0.win 0).blk t0_0).view.emb y = y := by
  funext a; apply Fin.ext
  match a with
  | ⟨0, _⟩ => show 0 * 128 + 1 * (y 0).val = (y 0).val; omega
  | ⟨1, _⟩ => show 0 * 2048 + 1 * (y 1).val = (y 1).val; omega
@[inherit_doc window0] theorem window1 (y : S1x4096.Idx) : ((cfg0.win 1).blk t0_0).view.emb y = y := by
  funext a; apply Fin.ext
  match a with
  | ⟨0, _⟩ => show 0 * 1 + 1 * (y 0).val = (y 0).val; omega
  | ⟨1, _⟩ => show 0 * 4096 + 1 * (y 1).val = (y 1).val; omega

/-- So the body finds the input argument, and the bias as one row. -/
theorem block0 (c : Dev nD) : iblk m c 0 t0_0 = m ((c.tc : Thread nD τ).loc main_arg0) :=
  (funext fun y => congrArg (V m c main_arg0) (window0 y)).trans (V_main_arg0 m c)
@[inherit_doc block0] theorem block1 (c : Dev nD) : iblk m c 1 t0_0
    = shapeCast S1x4096 (m ((c.tc : Thread nD τ).loc main_arg2)) shapeCasts_S4096_S1x4096 :=
  (funext fun y => congrArg (V m c main_v0) (window1 y)).trans (V_main_v0 m c)

/-- The kernel's result in terms of its arguments. -/
theorem Y_eq (c : Dev nD) : Y m c = layer (m ((c.tc : Thread nD τ).loc main_arg0))
    (shapeCast S1x4096 (m ((c.tc : Thread nD τ).loc main_arg2)) shapeCasts_S4096_S1x4096)
    (m ((c.tc : Thread nD τ).loc main_arg1)) := by
  unfold Y
  rw [resultOf_eq, block0, block1, V_main_arg1]

/-- The reference's term is the same function of the arguments. -/
theorem reference_eq (x : Vec Ideal S128x2048 .f32) (w : Vec Ideal S4096x2048 .f32) (b : Vec Ideal ⟨1, ![4096]⟩ .f32) :
    (maximumf (addf (Host.dotGeneral (φ₁ := .f32) (φ₂ := .f32) Cert.ReferenceIdeal.dot_S128x2048_S2048x4096_S128x4096_1_0_0_1_n_n none x
        (transpose Cert.ReferenceIdeal.S2048x4096 [1, 0] w Cert.ReferenceIdeal.Facts₀.transposes_S4096x2048_S2048x4096_1_0))
      (broadcastInDim Cert.ReferenceIdeal.S128x4096 ![0, 1] Cert.ReferenceIdeal.Facts₀.bcast_S1x4096_S128x4096_0_1
        (broadcastInDim Cert.ReferenceIdeal.S1x4096 ![1] Cert.ReferenceIdeal.Facts₀.bcast_S4096_S1x4096_1 b)))
      (broadcastInDim Cert.ReferenceIdeal.S128x4096 ![] Cert.ReferenceIdeal.Facts₀.bcast_S_S128x4096 (constant Cert.ReferenceIdeal.S_ .f32 0x00000000#32))
        : FVec Ideal Cert.ReferenceIdeal.S128x4096 .f32)
      = layer x (shapeCast S1x4096 b shapeCasts_S4096_S1x4096) w := by
  funext y
  obtain ⟨i, j, rfl⟩ : ∃ (i : Fin 128) (j : Fin 4096), y = ix2 i j := ⟨y 0, y 1, eq_ix2 y⟩
  have hd : Cert.ReferenceIdeal.dot_S128x2048_S2048x4096_S128x4096_1_0_0_1_n_n = DotDims.plain 128 2048 4096 := rfl
  rw [ValueIdx.maximumf_apply, ValueIdx.addf_apply, hd, StackMember.dotGeneral_plain_apply,
    broadcastInDim_apply _ _ _ _ (ix2 0 j) (by intro a; match a with | ⟨0, _⟩ => rfl | ⟨1, _⟩ => rfl),
    broadcastInDim_apply _ _ _ _ (ix1 j) (by intro a; match a with | ⟨0, _⟩ => rfl),
    broadcastInDim_apply _ _ _ _ ix0 (by intro a; exact a.elim0)]
  have ht (k : Fin 2048) : transpose Cert.ReferenceIdeal.S2048x4096 [1, 0] w
      Cert.ReferenceIdeal.Facts₀.transposes_S4096x2048_S2048x4096_1_0 (ix2 k j) = w (ix2 j k) :=
    transpose_apply _ _ _ _ _ (by intro a; match a with | ⟨0, _⟩ => rfl | ⟨1, _⟩ => rfl)
  have hr : shapeCast S1x4096 b shapeCasts_S4096_S1x4096 (ix2 0 j) = b (ix1 j) :=
    shapeCast_apply _ _ _ _ (by rw [Shape.rowMajor_val_one, Shape.rowMajor_val_two]; exact (Nat.zero_add _).symm)
  simp only [ht]
  show max (_ + _) (Ideal.ofBits .f32 0x00000000#32) = max (_ + shapeCast S1x4096 b shapeCasts_S4096_S1x4096 (ix2 0 j)) 0
  rw [hr, Ideal.ofBits_zero_f32]

end Cert.KernelIdeal.Run

end
-- ==== Proof.lean ====
module

public import proofs.«01_k».proof.Defs
public import proofs.«01_k».proof.Proof.Gen.Kernel
public import proofs.«01_k».proof.Proof.Gen.ReferenceIdeal.Run
public import proofs.«01_k».proof.Proof.Frame
public import proofs.«01_k».proof.Proof.Value

@[expose] public section

noncomputable section

namespace Cert.Proof

open Idealize.ShloMosaic Idealize.SL.Sem

variable {F : FTy → Type} [FloatOps F]

/-- The kernel and its idealization have the same body, at any float values. -/
theorem bodies_eq : Cert.Kernel.defs₀ (F := F) = Cert.KernelIdeal.defs₀ (F := F) := by
  unfold Cert.Kernel.defs₀ Cert.KernelIdeal.defs₀
  congr 1
  funext l a
  match l, a with
  | 0, (t, s) => rfl

/-- So they have the same body table, the launch's own entries being the same. -/
theorem defs_eq : Cert.Kernel.defs (F := F) = Cert.KernelIdeal.defs (F := F) :=
  congrArg (Pipeline.defs (Cert.KernelIdeal.pcfgs (F := F))) bodies_eq

/-- The kernel at bits terminates without a fault, its arguments unchanged and every counter at zero. -/
theorem frame_kernel : Cert.quiescent_Kernel := fun m g _ => by
  rw [defs_eq]
  exact (θ_run Cert.KernelIdeal.defs _ _).mono (fun _ h => ⟨fun c => (h.1 c).2, h.2⟩)
    (Cert.KernelIdeal.Run.run_value (F := Bits) m g)

/-- The same of the kernel over the extended reals. -/
theorem frame_kernelIdeal : Cert.quiescent_KernelIdeal := fun m g _ =>
  (θ_run Cert.KernelIdeal.defs _ _).mono (fun _ h => ⟨fun c => (h.1 c).2, h.2⟩)
    (Cert.KernelIdeal.Run.run_value (F := Ideal) m g)

/-- The same of the reference, which has no counters. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree on the arguments, the kernel's result array is the reference's, entry by entry: each is
    `layer` of the arguments. -/
theorem result_eq : Cert.algebraic_KernelIdeal_ReferenceIdeal := fun m g m' g' _ hag =>
  ⟨fun c => Cert.KernelIdeal.Run.Y m c,
    (θ_run Cert.KernelIdeal.defs _ _).mono (fun _ h => h.1) (Cert.KernelIdeal.Run.run_value (F := Ideal) m g),
    (θ_run Cert.ReferenceIdeal.defs _ _).mono
      (fun _ h c => ⟨(h c).1.trans (by
          rw [(hag c).1, (hag c).2.1, (hag c).2.2]
          exact (Cert.KernelIdeal.Run.reference_eq _ _ _).trans (Cert.KernelIdeal.Run.Y_eq m c).symm),
        (h c).2⟩)
      (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, result_eq⟩

end Cert.Proof

end
